-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23_3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x768 : Shape := ⟨2, ![8192, 768]⟩
abbrev S256x768 : Shape := ⟨2, ![256, 768]⟩
abbrev S256 : Shape := ⟨1, ![256]⟩
abbrev S64x256 : Shape := ⟨2, ![64, 256]⟩
abbrev S64 : Shape := ⟨1, ![64]⟩
abbrev S768x256 : Shape := ⟨2, ![768, 256]⟩
abbrev S8192x256 : Shape := ⟨2, ![8192, 256]⟩
abbrev S1x256 : Shape := ⟨2, ![1, 256]⟩
abbrev S_ : Shape := ⟨0, ![]⟩
abbrev S256x64 : Shape := ⟨2, ![256, 64]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩
abbrev S1x1x64 : Shape := ⟨3, ![1, 1, 64]⟩
abbrev S1 : Shape := ⟨1, ![1]⟩
abbrev S1x1x1 : Shape := ⟨3, ![1, 1, 1]⟩

abbrev nBuf : Space → Nat
  | .hbm => 35
  | .vmem => 3
  | .smem => 0
  | _ => 0

abbrev bufTy : (tb : Table) → Fin (tcTables nBuf tb) → BufTy
  | .hbm, ⟨0, _⟩ => ⟨S8192x768, .f32⟩
  | .hbm, ⟨1, _⟩ => ⟨S256x768, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S64, .f32⟩
  | .hbm, ⟨6, _⟩ => ⟨S768x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S256x64, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x64, .f32⟩
  | .hbm, ⟨32, _⟩ => ⟨S8192x64, .f32⟩
  | .hbm, ⟨33, _⟩ => ⟨S1x64, .f32⟩
  | .hbm, ⟨34, _⟩ => ⟨S8192x64, .f32⟩
  | .local _ .vmem, ⟨0, _⟩ => ⟨S8192x64, .f32⟩
  | .local _ .vmem, ⟨1, _⟩ => ⟨S1x64, .f32⟩
  | .local _ .vmem, ⟨2, _⟩ => ⟨S8192x64, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8192_i32 : BitVec 32 := 8192#32
  let v2 : BitVec 32 := Scalar.addi c0_i32 c8192_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let v4 : Index := Scalar.indexCast arg3
  let c0_2 : Index := 0#32
  ![v4.toNat, 0]
abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x768 : Shape := ⟨2, ![8192, 768]⟩
abbrev S256x768 : Shape := ⟨2, ![256, 768]⟩
abbrev S256 : Shape := ⟨1, ![256]⟩
abbrev S64x256 : Shape := ⟨2, ![64, 256]⟩
abbrev S64 : Shape := ⟨1, ![64]⟩
abbrev S768x256 : Shape := ⟨2, ![768, 256]⟩
abbrev S8192x256 : Shape := ⟨2, ![8192, 256]⟩
abbrev S1x256 : Shape := ⟨2, ![1, 256]⟩
abbrev S_ : Shape := ⟨0, ![]⟩
abbrev S256x64 : Shape := ⟨2, ![256, 64]⟩
abbrev S8192x64 : Shape := ⟨2, ![8192, 64]⟩
abbrev S1x64 : Shape := ⟨2, ![1, 64]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S256x768, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S64, .f32⟩
  | .hbm, ⟨6, _⟩ => ⟨S768x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S256x64, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S8192x64, .f32⟩
  | .hbm, ⟨35, _⟩ => ⟨S_, .i32⟩
  | .hbm, ⟨36, _⟩ => ⟨S8192x64, .f32⟩
  | .hbm, ⟨37, _⟩ => ⟨S_, .i32⟩
  | .hbm, ⟨38, _⟩ => ⟨S64, .f32⟩
  | .hbm, ⟨39, _⟩ => ⟨S8192x64, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S1x64, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S64, .f32⟩
  | .hbm, ⟨53, _⟩ => ⟨S64, .i1⟩
  | .hbm, ⟨54, _⟩ => ⟨S_, .i1⟩
  | .hbm, ⟨55, _⟩ => ⟨S_, .i1⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S_, .i32⟩
  | .hbm, ⟨74, _⟩ => ⟨S8192x64, .f32⟩
  | .hbm, ⟨75, _⟩ => ⟨S_, .i32⟩
  | .hbm, ⟨76, _⟩ => ⟨S_, .i32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_c : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v23_3 : Ref sig .tc := ⟨.hbm, 39, rfl⟩
abbrev main_while0c_c_6 : Ref sig .tc := ⟨.hbm, 40, rfl⟩
abbrev main_while0c_v24 : Ref sig .tc := ⟨.hbm, 41, rfl⟩
abbrev main_while0b_call1_c : Ref sig .tc := ⟨.hbm, 42, rfl⟩
abbrev main_while0b_call1_v0 : Ref sig .tc := ⟨.hbm, 43, rfl⟩
abbrev main_while0b_v24 : Ref sig .tc := ⟨.hbm, 44, rfl⟩
abbrev main_while0b_v25 : Ref sig .tc := ⟨.hbm, 45, rfl⟩
abbrev main_while0b_cst_6 : Ref sig .tc := ⟨.hbm, 46, rfl⟩
abbrev main_while0b_v26 : Ref sig .tc := ⟨.hbm, 47, rfl⟩
abbrev main_while0b_cst_7 : Ref sig .tc := ⟨.hbm, 48, rfl⟩
abbrev main_while0b_v27 : Ref sig .tc := ⟨.hbm, 49, rfl⟩
abbrev main_while0b_cst_8 : Ref sig .tc := ⟨.hbm, 50, rfl⟩
abbrev main_while0b_v28 : Ref sig .tc := ⟨.hbm, 51, rfl⟩
abbrev main_while0b_v29 : Ref sig .tc := ⟨.hbm, 52, rfl⟩
abbrev main_while0b_v30 : Ref sig .tc := ⟨.hbm, 53, rfl⟩
abbrev main_while0b_c_9 : Ref sig .tc := ⟨.hbm, 54, rfl⟩
abbrev main_while0b_v31 : Ref sig .tc := ⟨.hbm, 55, rfl⟩
abbrev main_while0b_v32 : Ref sig .tc := ⟨.hbm, 56, rfl⟩
abbrev main_while0b_v33 : Ref sig .tc := ⟨.hbm, 57, rfl⟩
abbrev main_while0b_cst_10 : Ref sig .tc := ⟨.hbm, 58, rfl⟩
abbrev main_while0b_call3_v0 : Ref sig .tc := ⟨.hbm, 59, rfl⟩
abbrev main_while0b_call3_v1 : Ref sig .tc := ⟨.hbm, 60, rfl⟩
abbrev main_while0b_v34 : Ref sig .tc := ⟨.hbm, 61, rfl⟩
abbrev main_while0b_cst_11 : Ref sig .tc := ⟨.hbm, 62, rfl⟩
abbrev main_while0b_v35 : Ref sig .tc := ⟨.hbm, 63, rfl⟩
abbrev main_while0b_cst_12 : Ref sig .tc := ⟨.hbm, 64, rfl⟩
abbrev main_while0b_v36 : Ref sig .tc := ⟨.hbm, 65, rfl⟩
abbrev main_while0b_cst_13 : Ref sig .tc := ⟨.hbm, 66, rfl⟩
abbrev main_while0b_call4_v0 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_call5_v0 : Ref sig .tc := ⟨.hbm, 72, rfl⟩
abbrev main_while0b_call5_c : Ref sig .tc := ⟨.hbm, 73, rfl⟩
abbrev main_while0b_v41 : Ref sig .tc := ⟨.hbm, 74, rfl⟩
abbrev main_while0b_c_14 : Ref sig .tc := ⟨.hbm, 75, rfl⟩
abbrev main_while0b_v42 : Ref sig .tc := ⟨.hbm, 76, rfl⟩

abbrev nD : Nat := 1
abbrev τ : Topo := Topo.v7x

variable {F : FTy → Type} [FloatOps F]

abbrev main_while0_count : Scf.Loop 32 := ⟨0#32, 8192#32, 1#32⟩
-- ==== Proof.RowStep.lean ====
/-
  The scan over rows as plain mathematics on the extended reals, no program in sight.

  A row has 64 entries, one per expert. The scan carries a running total `r` and meets the rows one after the other. At
  a row `s` it forms the tentative total `r + s`, and the limit: the mean of the tentative total plus a margin. An
  entry whose tentative total is above the limit is overloaded. What is written for the row is `s` with the overloaded
  entries set to zero, divided by the sum of what is left (by 1 if that sum is zero). The next running total is that
  written row, added to the tentative total — less `s` if any entry at all was overloaded.
-/
module

public import Idealize.ShloMosaic.Lib.Pointwise

@[expose] public section

noncomputable section

open Idealize.ShloMosaic

namespace Cert.Proof.Scan

/-- One row: a value per expert. -/
abbrev Row := Fin 64 → EReal

/-- The mean of the tentative total `r + s`, plus the margin. -/
def limit (r s : Row) : EReal :=
  (∑ e, (r e + s e)) * Ideal.ofBits .f32 0x3C800000#32 + Ideal.ofBits .f32 0x3DCCCCCD#32

/-- Entry `e` is overloaded: its tentative total is above the limit. -/
def Over (r s : Row) (e : Fin 64) : Prop := limit r s < r e + s e

open Classical in
/-- The row with its overloaded entries set to zero. -/
def kept (r s : Row) : Row := fun e => if Over r s e then 0 else s e

open Classical in
/-- What the kept row is divided by: its sum, or 1 where that is zero. -/
def divisor (r s : Row) : EReal := if ∑ e, kept r s e = 0 then 1 else ∑ e, kept r s e

/-- The row that is written. -/
def share (r s : Row) : Row := fun e => Ideal.div (kept r s e) (divisor r s)

open Classical in
/-- What the written row is added to: the tentative total, less `s` if any entry is overloaded. -/
def base (r s : Row) : Row := fun e => if ∃ e', Over r s e' then r e + s e - s e else r e + s e

/-- The running total after the row. -/
def next (r s : Row) : Row := fun e => base r s e + share r s e

/-- The running total before row `k`, of rows `p` and the total `r` at the start. -/
def total (p : ℕ → Row) (r : Row) : ℕ → Row
  | 0 => r
  | k + 1 => next (total p r k) (p k)

/-- The row written for row `k`. -/
def written (p : ℕ → Row) (r : Row) (k : ℕ) : Row := share (total p r k) (p k)

/-- The rows of an array with 8192 rows as a sequence: past the last row, zero. -/
def listed (x : Fin 8192 → Row) (k : ℕ) : Row := if h : k < 8192 then x ⟨k, h⟩ else 0

/-- A row of the sequence that the array has. -/
theorem listed_of_lt (x : Fin 8192 → Row) {k : ℕ} (h : k < 8192) : listed x k = x ⟨k, h⟩ := dif_pos h

/-! ### The two constants that name the mean

Multiplying by the constant 1/64 and dividing by the constant 64 are the same map on the extended reals. -/

/-- The constant 64. -/
theorem ofBits_64 : Ideal.ofBits .f32 0x42800000#32 = ((64 : ℝ) : EReal) := by
  simp [Ideal.ofBits, Ideal.ieee]
  norm_num
  rw [← EReal.coe_mul]
  norm_num

/-- The constant 1/64. -/
theorem ofBits_64th : Ideal.ofBits .f32 0x3C800000#32 = ((1 / 64 : ℝ) : EReal) := by
  simp [Ideal.ofBits, Ideal.ieee]
  norm_num
  rw [← EReal.coe_mul]
  norm_num

/-- The constant minus infinity. -/
theorem ofBits_neg_inf : Ideal.ofBits .f32 0xFF800000#32 = ⊥ := by
  simp [Ideal.ofBits, Ideal.ieee]

/-- Dividing by 64 is multiplying by 1/64. -/
theorem div_64 (x : EReal) :
    Ideal.div x (Ideal.ofBits .f32 0x42800000#32) = x * Ideal.ofBits .f32 0x3C800000#32 := by
  rw [ofBits_64, ofBits_64th, Ideal.div_coe (by norm_num)]

/-! ### Words that carry a truth value -/

/-- A selection on a one-bit word that is 1 exactly when `P` holds. -/
theorem select_iff {α : Type} {P : Prop} [Decidable P] {b : BitVec 1} (h : b = 1#1 ↔ P) (x y : α) :
    Scalar.select b x y = if P then x else y := by
  unfold Scalar.select
  by_cases hp : P
  · rw [if_pos hp, h.mpr hp]; rfl
  · rw [if_neg hp]
    rcases BitVec.eq_zero_or_eq_one b with e | e
    · rw [e]; rfl
    · exact absurd (h.mp e) hp

/-- The greatest of finitely many values, each 1 or 0 by a condition, is above 0 exactly when the condition holds
    somewhere. -/
theorem fold_max_pos_iff {ι : Type} (s : Finset ι) (P : ι → Prop) [DecidablePred P] :
    (0 : EReal) < s.fold max ⊥ (fun e => if P e then (1 : EReal) else 0) ↔ ∃ e ∈ s, P e := by
  rw [Finset.lt_fold_max]
  constructor
  · rintro (h | ⟨e, he, h⟩)
    · exact absurd h (by simp)
    · by_cases hp : P e
      · exact ⟨e, he, hp⟩
      · rw [if_neg hp] at h; exact absurd h (lt_irrefl _)
  · rintro ⟨e, he, hp⟩
    exact Or.inr ⟨e, he, by rw [if_pos hp]; exact zero_lt_one⟩

end Cert.Proof.Scan

end
-- ==== Proof.KernelRow.lean ====
/-
  What one trip of the kernel's loop computes from the running total it carries and the row it loads: the row it stores
  is `Scan.share` of the two, the running total it hands on is `Scan.next` of the two.
-/
module

public import Idealize.ShloMosaic.Lib.WordArith
public import proofs.«01_k».proof.Proof.RowStep
public import proofs.«01_k».proof.Proof.Gen.KernelIdeal.Skeleton

@[expose] public section

noncomputable section

open Idealize.ShloMosaic

namespace Cert.Proof.KernelRow

open Cert.KernelIdeal Cert.KernelIdeal.Gen Cert.Proof.Scan

/-- The one row of a block of one row. -/
abbrev row (v : FVec Ideal S1x64 .f32) : Row := fun e => v (ix2 0 e)

variable (acc v : FVec Ideal S1x64 .f32) (e : Fin 64)

set_option maxRecDepth 16384 in
/-- The mask's bit at `e` says whether entry `e` is overloaded. -/
theorem mask_iff : k0_pay4 acc v (ix2 0 e) = 1#1 ↔ Over (row acc) (row v) e := by
  pointwise [k0_pay4, k0_pay3, k0_pay2]
  rw [Idealize.ShloMosaic.WordArith.ofBool_eq_one_iff, decide_eq_true_iff, Fin.sum_univ_one]
  exact Iff.rfl

open Classical in
/-- The masked row, entry by entry. -/
theorem masked :
    Scalar.select (k0_pay4 acc v (ix2 0 e)) (0 : EReal) (v (ix2 0 e)) = kept (row acc) (row v) e :=
  select_iff (mask_iff acc v e) _ _

set_option maxRecDepth 16384 in
/-- The row the trip stores. -/
theorem stored : k0_pay5 acc v (ix2 0 e) = share (row acc) (row v) e := by
  pointwise [k0_pay5, k0_pay2]
  simp only [masked, Fin.sum_univ_one]
  rw [share, divisor]

set_option maxRecDepth 16384 in
/-- The running total the trip hands on. -/
theorem carried : k0_pay6 acc v (ix2 0 e) = next (row acc) (row v) e := by
  classical
  pointwise [k0_pay6, k0_pay3, k0_pay2]
  have h : (0 < Finset.fold max (Ideal.ofBits .f32 0xFF800000#32)
      (fun x : Fin 1 × Fin 64 => Scalar.select (k0_pay4 acc v (ix2 0 x.2)) (1 : EReal) 0) Finset.univ)
      ↔ ∃ e', Over (row acc) (row v) e' := by
    simp only [select_iff (mask_iff acc v _)]
    rw [ofBits_neg_inf, fold_max_pos_iff Finset.univ fun x : Fin 1 × Fin 64 => Over (row acc) (row v) x.2]
    exact ⟨fun ⟨x, _, hx⟩ => ⟨x.2, hx⟩, fun ⟨e', he⟩ => ⟨(0, e'), Finset.mem_univ _, he⟩⟩
  rw [stored, next, base]
  congr 1
  by_cases ho : ∃ e', Over (row acc) (row v) e'
  · rw [if_pos (h.mpr ho), if_pos ho]
    rfl
  · rw [if_neg (fun hp => ho (h.mp hp)), if_neg ho]
    rfl

end Cert.Proof.KernelRow

end
-- ==== Proof.KernelTrip.lean ====
/-
  One trip of the kernel's loop over the rows: which row it loads, which piece it writes into the result, and which
  running total it hands on.
-/
module

public import proofs.«01_k».proof.Proof.KernelRow
public import proofs.«01_k».proof.Proof.Gen.KernelIdeal.Value
public import Idealize.ShloMosaic.Lib.Pointwise
public import Idealize.ShloMosaic.Lib.Tactic
public import Idealize.ShloMosaic.Lib.WholeRead

@[expose] public section

noncomputable section

open Idealize.ShloMosaic Idealize.ShloMosaic.TcCoe Idealize.ShloMosaic.Tactic

namespace Cert.Proof.KernelTrip

open Cert.KernelIdeal Cert.KernelIdeal.Gen Cert.Proof.Scan Cert.Proof.KernelRow

/-- The rectangle of the one row trip `k` loads and stores. -/
abbrev strip (k : Fin k0_t1_loop.trips) : Rect S8192x64 :=
  Rect.unit (s := S8192x64) (k0_off1 k) S1x64.size (k0_off1_inb k)

/-- The row trip `k` loads from the array `x`. -/
abbrev loaded (x : Vec Ideal S8192x64 .f32) (k : Fin k0_t1_loop.trips) : FVec Ideal S1x64 .f32 :=
  fun j => x ((strip k).emb j)

variable (𝒱 : Variants) (c : Dev nD) (bd : Option 𝒱.V)
  (arg0 : Memref sig .tc .vmem S8192x64 .f32) (harg0 : arg0.IsWhole)
  (arg1 : Memref sig .tc .vmem S1x64 .f32) (harg1 : arg1.IsWhole)
  (arg2 : Memref sig .tc .vmem S8192x64 .f32) (harg2 : arg2.IsWhole)
  (x : Vec Ideal S8192x64 .f32) (k : Fin k0_t1_loop.trips) (acc : FVec Ideal S1x64 .f32)

/-- Reading the strip of an array held whole is the strip of the array. -/
theorem readAt_strip :
    View.readAt (Elt Ideal) arg0.view (strip k).toLoadRect (harg0.unread x) = loaded x k :=
  funext fun j => harg0.readAt_unread x (strip k).toLoadRect j

/-- The running total trip `k` hands on. -/
theorem tripR_eq :
    tripR_k0_t1 𝒱 c bd arg0 harg0 arg1 harg1 arg2 harg2 (harg0.unread x) k acc = k0_pay6 acc (loaded x k) := by
  unfold tripR_k0_t1 trip_k0_t1
  dsimp only
  sl_unfold_words
  exact congrArg (k0_pay6 acc) (readAt_strip arg0 harg0 x k)

/-- The one piece trip `k` writes. -/
theorem tripL_eq :
    tripL_k0_t1 𝒱 c bd arg0 harg0 arg1 harg1 arg2 harg2 (harg0.unread x) k acc
      = [⟨strip k, k0_pay5 acc (loaded x k)⟩] := by
  unfold tripL_k0_t1 trip_k0_t1
  dsimp only
  sl_unfold_words
  exact congrArg (fun v => [(⟨strip k, k0_pay5 acc v⟩ : View.Piece (Elt Ideal) S8192x64 .f32)])
    (readAt_strip arg0 harg0 x k)

/-- The strip of trip `k` is row `k`. -/
theorem strip_emb (j : (strip k).shape.Idx) :
    ((strip k).emb j 0 : ℕ) = k.val ∧ ((strip k).emb j 1 : ℕ) = (j 1 : ℕ) := by
  have h := k0_off1_eq k
  have h0 : (j 0 : ℕ) < 1 := (j 0).isLt
  constructor
  · show k0_off1 k 0 + 1 * (j 0 : ℕ) = k.val
    rw [h]
    show k.val + 1 * (j 0 : ℕ) = k.val
    omega
  · show k0_off1 k 1 + 1 * (j 1 : ℕ) = (j 1 : ℕ)
    rw [h]
    show 0 + 1 * (j 1 : ℕ) = (j 1 : ℕ)
    omega

/-- The rows of the array, in order. -/
abbrev rows : ℕ → Row := listed fun k e => x (ix2 k e)

/-- Row `k` of the array is what trip `k` loads. -/
theorem row_loaded : row (loaded x k) = rows x k := by
  have hk : k.val < 8192 := Nat.lt_of_lt_of_le k.isLt k0_t1_abs.2.1
  rw [rows, listed_of_lt _ hk]
  funext e
  show x ((strip k).emb (ix2 0 e)) = x (ix2 ⟨k, hk⟩ e)
  congr 1
  funext a
  apply Fin.ext
  match a with
  | ⟨0, _⟩ => exact (strip_emb k (ix2 0 e)).1
  | ⟨1, _⟩ => exact (strip_emb k (ix2 0 e)).2

end Cert.Proof.KernelTrip

end
-- ==== Proof.KernelArray.lean ====
/-
  What the whole loop leaves in the result array: row `k` is `Scan.written` of the rows of the first operand and the
  running total the second operand starts with.
-/
module

public import proofs.«01_k».proof.Proof.KernelTrip

@[expose] public section

noncomputable section

open Idealize.ShloMosaic Idealize.ShloMosaic.TcCoe Idealize.ShloMosaic.Tactic

namespace Cert.Proof.KernelArray

open Cert.KernelIdeal Cert.KernelIdeal.Gen Cert.Proof.Scan Cert.Proof.KernelRow Cert.Proof.KernelTrip

/-- The array the loop leaves, of the operands `x` (the rows) and `r` (the total at the start). -/
def scanned (x : Vec Ideal S8192x64 .f32) (r : Vec Ideal S1x64 .f32) : Vec Ideal S8192x64 .f32 :=
  fun i => written (rows x) (row r) (i 0 : ℕ) (i 1)

variable (𝒱 : Variants) (c : Dev nD) (bd : Option 𝒱.V)
  (arg0 : Memref sig .tc .vmem S8192x64 .f32) (harg0 : arg0.IsWhole)
  (arg1 : Memref sig .tc .vmem S1x64 .f32) (harg1 : arg1.IsWhole)
  (arg2 : Memref sig .tc .vmem S8192x64 .f32) (harg2 : arg2.IsWhole)
  (x : Vec Ideal S8192x64 .f32) (r : Vec Ideal S1x64 .f32)

/-- The row a trip stores, from the running total, is the array's row. -/
theorem strip_value (k : Fin k0_t1_loop.trips) (acc : FVec Ideal S1x64 .f32)
    (hacc : row acc = total (rows x) (row r) k) (j : S1x64.Idx) :
    k0_pay5 acc (loaded x k) j = scanned x r ((strip k).emb j) := by
  obtain ⟨h0, h1⟩ := strip_emb k j
  rw [scanned, h0, show (strip k).emb j 1 = j 1 from Fin.ext h1, written, ← hacc, ← row_loaded]
  idx_vars j
  rw [Subsingleton.elim j0 0]
  exact stored _ _ j1

/-- Before trip `n`: the carried row is the running total, and every piece written so far holds values of the array. -/
theorem state (n : ℕ) (hn : n ≤ k0_t1_loop.trips) :
    row (st_k0_t1 𝒱 c bd arg0 harg0 arg1 harg1 arg2 harg2 (harg0.unread x) r n).1 = total (rows x) (row r) n
    ∧ ∀ p ∈ (st_k0_t1 𝒱 c bd arg0 harg0 arg1 harg1 arg2 harg2 (harg0.unread x) r n).2,
        ∀ j : p.1.shape.Idx, p.2 j = scanned x r (p.1.emb j) := by
  induction n with
  | zero => exact ⟨rfl, fun p hp => absurd hp List.not_mem_nil⟩
  | succ n ih =>
    obtain ⟨hacc, hpieces⟩ := ih (Nat.le_of_succ_le hn)
    have hs := st_k0_t1_succ 𝒱 c bd arg0 harg0 arg1 harg1 arg2 harg2 (harg0.unread x) r ⟨n, hn⟩
    rw [tripR_eq, tripL_eq] at hs
    rw [show n + 1 = ((⟨n, hn⟩ : Fin k0_t1_loop.trips) : ℕ) + 1 from rfl, hs]
    constructor
    · funext e
      show k0_pay6 (F := Ideal) _ _ (ix2 0 e) = next (total (rows x) (row r) n) (rows x n) e
      rw [carried, hacc, row_loaded]
    · intro p hp
      rcases List.mem_append.mp hp with hp | hp
      · obtain rfl := List.mem_singleton.mp hp
        intro j
        exact strip_value x r ⟨n, hn⟩ _ hacc j
      · exact hpieces p hp

/-- The row the loop starts from is the second operand. -/
theorem start_eq :
    k0_pay1 (View.readAt (Elt Ideal) arg1.view
      (Rect.unit (s := S1x64) ![0, 0] ![1, 64] inb_S1x64_S1x64_0_0).toLoadRect (harg1.unread r)) = r := by
  have hz : (![0, 0] : Fin 2 → Nat) = fun _ => 0 := funext fun a => by fin_cases a <;> rfl
  unfold k0_pay1
  simp only [View.readAt_eq_ld, harg1.read_unread, shapeCast_self]
  exact View.ld_unit_zero (S := S1x64) hz _ _

/-- The staged result after the body, on whole staging buffers that hold `x` and `r`. -/
theorem out_eq : out0_A_2 c arg0 harg0 arg1 harg1 arg2 harg2 x r = scanned x r := by
  funext i
  have hcov := cover0_A_2 c arg0 harg0 arg1 harg1 arg2 harg2 x r i
  unfold out0_A_2
  refine View.read_writes_apply_of_pieces _ _ (scanned x r) _ ?_ i hcov
  unfold kernelRun0_A
  dsimp only
  sl_unfold_words
  rw [start_eq arg1 harg1 r]
  exact (state Variants.none c none arg0 harg0 arg1 harg1 arg2 harg2 x r k0_t1_loop.trips le_rfl).2

end Cert.Proof.KernelArray

end
-- ==== Proof.KernelRun.lean ====
/-
  The kernel's run: its result array is `KernelArray.scanned` of the two arrays the host operations hand to the kernel.
-/
module

public import proofs.«01_k».proof.Proof.KernelArray

@[expose] public section

noncomputable section

open Idealize.ShloMosaic Idealize.ShloMosaic.TcCoe Idealize.SL.Sem

namespace Cert.Proof.KernelRun

open Cert.KernelIdeal Cert.KernelIdeal.Gen Cert.Proof.KernelArray

variable (m : (ℓ : Loc nD τ sig) → Buf (Elt Ideal) ℓ) (ρ : Dev nD → PrngReg)

/-- The rows the kernel is called with. -/
abbrev operand (c : Dev nD) : Vec Ideal S8192x64 .f32 := V m c main_v21

/-- The running total the kernel is called with. -/
abbrev start (c : Dev nD) : Vec Ideal S1x64 .f32 := V m c main_v22

/-- The one block of the first operand is the whole array. -/
theorem block_0 (c : Dev nD) (t : Fin cfg0.N) : iblk m c 0 t = operand m c := by
  obtain rfl := fin_N0 t
  have hz : (fun a => win0_0.index t0_0 a * main_v21.ty.shape.size a) = fun _ => 0 :=
    funext fun a => by fin_cases a <;> decide
  exact Memref.read_access_unit_zero (Elt Ideal) main_v21 hz (fun a => by rw [congrFun hz a]; simp) (operand m c)

/-- The one block of the second operand is the whole array. -/
theorem block_1 (c : Dev nD) (t : Fin cfg0.N) : iblk m c 1 t = start m c := by
  obtain rfl := fin_N0 t
  have hz : (fun a => win0_1.index t0_0 a * main_v22.ty.shape.size a) = fun _ => 0 :=
    funext fun a => by fin_cases a <;> decide
  exact Memref.read_access_unit_zero (Elt Ideal) main_v22 hz (fun a => by rw [congrFun hz a]; simp) (start m c)

/-- The result array. -/
abbrev result (c : Dev nD) : Buf (Elt Ideal) ((c : Thread nD τ).loc main_v23) := scanned (operand m c) (start m c)

/-- The one write-back writes all of it. -/
theorem flushed_eq (c : Dev nD) (t : Fin cfg0.N) (_ : (cfg0.win 2).flush t = true) :
    (dats m 0 c).flushed 2 t = ((cfg0.win 2).blk t).view.read (Elt Ideal) (result m c) := by
  rw [Value.flushed2_A, block_0, block_1, out_eq]
  obtain rfl := fin_N0 t
  have hz : (fun a => win0_2.index t0_0 a * main_v23.ty.shape.size a) = fun _ => 0 :=
    funext fun a => by fin_cases a <;> decide
  exact (Memref.read_access_unit_zero (Elt Ideal) main_v23 hz (fun a => by rw [congrFun hz a]; simp) (result m c)).symm

/-- What the result array holds after the run. -/
theorem final (c : Dev nD) : (dats m 0 c).arrAt 2 cfg0.N = result m c :=
  (dats m 0 c).arrAt_eq_of_cover 2 (result m c) (flushed_eq m c) fun i =>
    ⟨t0_0, flush0_2 t0_0, by
      show i ∈ ((View.whole main_v23).slice (win0_2.rect t0_0)).set
      rw [View.set_slice_whole, Rect.mem_set_unit]
      intro a
      have h0 : (i 0 : Nat) < 8192 := (i 0).isLt
      have h1 : (i 1 : Nat) < 64 := (i 1).isLt
      match a with
      | ⟨0, _⟩ =>
        show win0_2.index t0_0 0 * win0_2.size 0 ≤ (i 0 : Nat)
          ∧ (i 0 : Nat) < win0_2.index t0_0 0 * win0_2.size 0 + win0_2.xsize (grid0.coords t0_0) 0
        rw [show win0_2.index t0_0 0 * win0_2.size 0 = 0 from by decide +kernel,
          show win0_2.xsize (grid0.coords t0_0) 0 = 8192 from by decide +kernel]
        omega
      | ⟨1, _⟩ =>
        show win0_2.index t0_0 1 * win0_2.size 1 ≤ (i 1 : Nat)
          ∧ (i 1 : Nat) < win0_2.index t0_0 1 * win0_2.size 1 + win0_2.xsize (grid0.coords t0_0) 1
        rw [show win0_2.index t0_0 1 * win0_2.size 1 = 0 from by decide +kernel,
          show win0_2.xsize (grid0.coords t0_0) 1 = 64 from by decide +kernel]
        omega⟩

/-- The kernel's run: the result array, and the arguments as they were. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Proof.KernelRun

end
-- ==== Proof.RefTrip.lean ====
/-
  One trip of the reference's loop: from the running total it carries and row `j` of the probabilities, it writes
  `Scan.share` of the two as row `j` of its result and hands on `Scan.next` of the two.
-/
module

public import proofs.«01_k».proof.Proof.RowStep
public import proofs.«01_k».proof.Proof.Gen.ReferenceIdeal.Run
public import Idealize.ShloMosaic.Lib.Pointwise
public import Idealize.ShloMosaic.Lib.Tactic.CleanTypes
public import Idealize.ShloMosaic.Lib.Routing.OpsOrder
public import Idealize.ShloMosaic.Lib.WordArith

@[expose] public section

noncomputable section

open Idealize.ShloMosaic Idealize.ShloMosaic.TcCoe Idealize.SL.Sem Idealize.ShloMosaic.StableHlo

namespace Cert.Proof.RefTrip

open Cert.ReferenceIdeal Cert.ReferenceIdeal.Gen Cert.ReferenceIdeal.Value Cert.Proof.Scan

variable (V0 : Valuation τ sig (Elt Ideal))

/-- The probabilities the loop carries. -/
abbrev probs : FVec Ideal S8192x64 .f32 := V0 (Proc.devRef .tc main_v23_0)

/-- The trip counter the loop carries. -/
abbrev counter : IVec S_ 32 := V0 (Proc.devRef .tc main_v23_1)

/-- The running total the loop carries. -/
abbrev carry : FVec Ideal S64 .f32 := V0 (Proc.devRef .tc main_v23_2)

/-- The result so far. -/
abbrev sofar : FVec Ideal S8192x64 .f32 := V0 (Proc.devRef .tc main_v23_3)

/-- The running total, as a row. -/
abbrev carryRow : Row := fun e => carry V0 (ix1 e)

/-- Row `j` of the probabilities. -/
abbrev probRow (j : Fin 8192) : Row := fun e => probs V0 (ix2 j e)

variable (j : Fin 8192) (hc : counter V0 = constantI S_ 32 (BitVec.ofNat 32 j)) (e : Fin 64)

include hc in
/-- The counter, read as a signed number. -/
theorem counter_toInt : (counter V0 (Shape.Idx.first h_S_)).toInt = (j.val : Int) := by
  rw [hc]
  show (BitVec.ofNat 32 j.val).toInt = _
  have := j.isLt
  rw [BitVec.toInt_eq_toNat_cond, BitVec.toNat_ofNat]
  omega

/-- Where the trip's block starts, along each of the two axes. -/
abbrev starts : Fin 2 → Int := fun k =>
  (((![counter V0, constantI S_ 32 0#32] : Fin 2 → IVec S_ 32)) k (Shape.Idx.first h_S_)).toInt

include hc in
/-- Along the rows the block starts at row `j`: no clamping. -/
theorem start_0 (h : S8192x64.Slices (fun _ => 0) S1x64) :
    Host.clampedStart S8192x64 S1x64 h.1 (starts V0) 0 = j.val :=
  Host.clampedStart_of_le h.1 _ 0 j.val (counter_toInt V0 j hc) (by
    have := j.isLt
    show j.val + 1 ≤ 8192
    omega)

/-- Along the entries of a row the block starts at entry zero. -/
theorem start_1 (h : S8192x64.Slices (fun _ => 0) S1x64) :
    Host.clampedStart S8192x64 S1x64 h.1 (starts V0) 1 = 0 :=
  Host.clampedStart_of_le h.1 _ 1 0 rfl (by show 0 + 64 ≤ 64; omega)

include hc in
/-- The row a trip slices out. -/
theorem row_eq : (res_main_while0b_v24 V0 : FVec Ideal S64 .f32) (ix1 e) = probRow V0 j e := by
  unfold res_main_while0b_v24
  clean_types
  pointwise
  refine congrArg (probs V0) ?_
  congr 1
  · exact Fin.ext (start_0 V0 j hc sliceFits_S8192x64_S1x64)
  · apply Fin.ext
    show Host.clampedStart S8192x64 S1x64 sliceFits_S8192x64_S1x64.1 (starts V0) 1 + e.val = e.val
    rw [start_1 V0 sliceFits_S8192x64_S1x64, Nat.zero_add]

include hc in
/-- The tentative total. -/
theorem tentative : (res_main_while0b_v25 V0 : FVec Ideal S64 .f32) (ix1 e) = carryRow V0 e + probRow V0 j e := by
  rw [← row_eq V0 j hc e]
  rfl

include hc in
/-- The mask's bit at `e` says whether entry `e` is overloaded. -/
theorem mask_iff : (res_main_while0b_v30 V0 : IVec S64 1) (ix1 e) = 1#1 ↔ Over (carryRow V0) (probRow V0 j) e := by
  unfold res_main_while0b_v30
  clean_types
  pointwise
  rw [WordArith.ofBool_eq_one_iff, decide_eq_true_iff, div_64]
  simp only [tentative V0 j hc]
  exact Iff.rfl

open Classical in
include hc in
/-- The masked row. -/
theorem masked : (res_main_while0b_v34 V0 : FVec Ideal S64 .f32) (ix1 e) = kept (carryRow V0) (probRow V0 j) e := by
  unfold res_main_while0b_v34
  clean_types
  simp only [id]
  pointwise
  rw [select_iff (mask_iff V0 j hc e), row_eq V0 j hc e]
  rfl

include hc in
/-- The quotient. -/
theorem quotient : (res_main_while0b_v39 V0 : FVec Ideal S64 .f32) (ix1 e) = share (carryRow V0) (probRow V0 j) e := by
  unfold res_main_while0b_v39
  clean_types
  simp only [id]
  pointwise [res_main_while0b_v35]
  simp only [masked V0 j hc]
  rw [share, divisor]

include hc in
/-- The disjunction of the mask says whether some entry is overloaded. -/
theorem any_iff :
    Finset.fold IntOp.ori (0#1) (fun k => (res_main_while0b_v30 V0 : IVec S64 1) (ix1 k)) Finset.univ = 1#1
      ↔ ∃ e', Over (carryRow V0) (probRow V0 j) e' := by
  rw [Routing.fold_ori]
  simp only [mask_iff V0 j hc, Finset.mem_univ, true_and]

include hc in
/-- The running total after the trip. -/
theorem carried : (step_main_v23_2 V0 : FVec Ideal S64 .f32) (ix1 e) = next (carryRow V0) (probRow V0 j) e := by
  classical
  unfold step_main_v23_2
  clean_types
  simp only [id]
  pointwise
  rw [select_iff (any_iff V0 j hc), quotient V0 j hc e, tentative V0 j hc e, row_eq V0 j hc e, next, base]

include hc in
/-- The block that a trip writes. -/
theorem block (k : S1x64.Idx) :
    broadcastInDim S1x64 ![1] bcast_S64_S1x64_1 (res_main_while0b_v39 V0 : FVec Ideal S64 .f32) k
      = share (carryRow V0) (probRow V0 j) (k 1) := by
  idx_vars k
  pointwise
  exact quotient V0 j hc k1

include hc in
/-- The result after the trip. -/
theorem stored (i : Fin 8192) : (step_main_v23_3 V0 : FVec Ideal S8192x64 .f32) (ix2 i e)
    = if i = j then share (carryRow V0) (probRow V0 j) e else sofar V0 (ix2 i e) := by
  unfold step_main_v23_3
  clean_types
  simp only [id]
  rw [Host.dynamicUpdateSlice_apply]
  have h0 := start_0 V0 j hc updateFits_S8192x64_S1x64
  have h1 := start_1 V0 updateFits_S8192x64_S1x64
  by_cases hij : i = j
  · rw [if_pos hij, dif_pos]
    · refine (block V0 j hc _).trans (congrArg _ (Fin.ext ?_))
      show e.val - Host.clampedStart S8192x64 S1x64 updateFits_S8192x64_S1x64.1 (starts V0) 1 = e.val
      rw [h1, Nat.sub_zero]
    · intro a
      match a with
      | ⟨0, _⟩ =>
        show Host.clampedStart S8192x64 S1x64 updateFits_S8192x64_S1x64.1 (starts V0) 0 ≤ i.val
          ∧ i.val < Host.clampedStart S8192x64 S1x64 updateFits_S8192x64_S1x64.1 (starts V0) 0 + 1
        rw [h0, hij]
        omega
      | ⟨1, _⟩ =>
        show Host.clampedStart S8192x64 S1x64 updateFits_S8192x64_S1x64.1 (starts V0) 1 ≤ e.val
          ∧ e.val < Host.clampedStart S8192x64 S1x64 updateFits_S8192x64_S1x64.1 (starts V0) 1 + 64
        rw [h1]
        omega
  · rw [if_neg hij, dif_neg]
    intro hin
    have h := hin 0
    have h' : Host.clampedStart S8192x64 S1x64 updateFits_S8192x64_S1x64.1 (starts V0) 0 ≤ i.val
        ∧ i.val < Host.clampedStart S8192x64 S1x64 updateFits_S8192x64_S1x64.1 (starts V0) 0 + 1 := h
    rw [h0] at h'
    exact hij (Fin.ext (by omega))

end Cert.Proof.RefTrip

end
-- ==== Proof.RefRun.lean ====
/-
  The reference's run: after its 8192 trips the array it returns holds, in row `i`, `Scan.written` of the probabilities
  and the running total it starts with.
-/
module

public import proofs.«01_k».proof.Proof.RefTrip

@[expose] public section

noncomputable section

open Idealize.ShloMosaic Idealize.ShloMosaic.TcCoe Idealize.SL.Sem Idealize.ShloMosaic.StableHlo

namespace Cert.Proof.RefRun

open Cert.ReferenceIdeal Cert.ReferenceIdeal.Gen Cert.ReferenceIdeal.Value Cert.Proof.Scan Cert.Proof.RefTrip

/-- Before trip `k`, from contents `W` with the counter at zero: the probabilities are as they were, the counter is `k`,
    the running total is `Scan.total`, and the rows before row `k` are written. -/
theorem state (W : Valuation τ sig (Elt Ideal)) (h0 : counter W = constantI S_ 32 (BitVec.ofNat 32 0)) (k : ℕ)
    (hk : k ≤ 8192) :
    probs (STEP^[k] W) = probs W
    ∧ counter (STEP^[k] W) = constantI S_ 32 (BitVec.ofNat 32 k)
    ∧ carryRow (STEP^[k] W) = total (listed (probRow W)) (carryRow W) k
    ∧ ∀ (i : Fin 8192) (e : Fin 64), i.val < k →
        sofar (STEP^[k] W) (ix2 i e) = written (listed (probRow W)) (carryRow W) i e := by
  induction k with
  | zero => exact ⟨rfl, h0, rfl, fun i e h => absurd h (Nat.not_lt_zero _)⟩
  | succ k ih =>
    obtain ⟨hp, hc, ht, hs⟩ := ih (Nat.le_of_succ_le hk)
    have hrow : probRow (STEP^[k] W) ⟨k, hk⟩ = listed (probRow W) k := by
      rw [listed_of_lt _ hk]
      show (fun e => probs (STEP^[k] W) (ix2 ⟨k, hk⟩ e)) = _
      rw [hp]
    rw [Function.iterate_succ_apply']
    refine ⟨(STEP_main_v23_0 _).trans hp, ?_, ?_, ?_⟩
    · refine (STEP_main_v23_1 _).trans ?_
      unfold step_main_v23_1
      show addi (counter (STEP^[k] W)) (constantI S_ 32 1#32) = _
      rw [hc]
      funext i
      show BitVec.ofNat 32 k + 1#32 = BitVec.ofNat 32 (k + 1)
      rw [BitVec.ofNat_add]
    · funext e
      refine (congrFun (STEP_main_v23_2 _) (ix1 e)).trans ?_
      refine (carried _ ⟨k, hk⟩ hc e).trans ?_
      rw [hrow, ht]
      rfl
    · intro i e hi
      refine (congrFun (STEP_main_v23_3 _) (ix2 i e)).trans ?_
      refine (stored _ ⟨k, hk⟩ hc e i).trans ?_
      by_cases hik : i = ⟨k, hk⟩
      · rw [if_pos hik, hrow, ht, hik]
        rfl
      · rw [if_neg hik]
        exact hs i e (by
          have : i.val ≠ k := fun h => hik (Fin.ext h)
          omega)

variable (m : (ℓ : Loc nD τ sig) → Buf (Elt Ideal) ℓ) (ρ : Dev nD → PrngReg)

/-- The buffers at the loop's entry. -/
abbrev entry (c : Dev nD) : Valuation τ sig (Elt Ideal) := entryContents preI m c

set_option maxRecDepth 65536 in
/-- The loop's entry has the counter at zero. -/
theorem entry_counter (c : Dev nD) : counter (entry m c) = constantI S_ 32 (BitVec.ofNat 32 0) := by
  simp only [entry, counter, entryContents, afterL_cons, afterL_nil]
  after_reads_simp
  rfl

set_option maxRecDepth 65536 in
/-- The loop's entry has the running total at the last argument. -/
theorem entry_carry (c : Dev nD) : carry (entry m c) = m ((c : Thread nD τ).loc main_arg5) := by
  simp only [entry, carry, entryContents, afterL_cons, afterL_nil]
  after_reads_simp
  rfl

/-- The result array. -/
def result (c : Dev nD) : FVec Ideal S8192x64 .f32 :=
  fun i => written (listed (probRow (entry m c))) (fun e => m ((c : Thread nD τ).loc main_arg5) (ix1 e)) (i 0 : ℕ) (i 1)

/-- What the loop leaves in the array it returns. -/
theorem final (c : Dev nD) : sofar (STEP^[8192] (entry m c)) = result m c := by
  funext i
  idx_vars i
  refine ((state (entry m c) (entry_counter m c) 8192 le_rfl).2.2.2 i0 i1 i0.isLt).trans ?_
  unfold result carryRow
  rw [entry_carry]
  rfl

/-- The reference's run: the result array, and the arguments as they were. -/
theorem run : θ_run (defs (F := Ideal)) (onTc (τ := τ) (main (F := Ideal))) ⟨m, fun _ => 0, ρ⟩ fun r => ∀ c : Dev nD,
      r.2.mem ((c.tc : Thread nD τ).loc main_v23_3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final m c), (h c).2⟩) (Value.run m ρ)

end Cert.Proof.RefRun

end
-- ==== Proof.HostSteps.lean ====
/-
  What the operations before the loop compute, the same in the kernel's program and in the reference: the rows of
  probabilities, by two dense layers and a softmax.
-/
module

public import proofs.«01_k».proof.Proof.KernelRun
public import proofs.«01_k».proof.Proof.RefRun

@[expose] public section

noncomputable section

open Idealize.ShloMosaic Idealize.ShloMosaic.TcCoe Idealize.SL.Sem Idealize.ShloMosaic.StableHlo

namespace Cert.Proof.HostSteps

section Terms

open Cert.ReferenceIdeal Cert.ReferenceIdeal.Gen

variable (x : FVec Ideal S8192x768 .f32) (w1 : FVec Ideal S256x768 .f32) (b1 : FVec Ideal S256 .f32)
  (w2 : FVec Ideal S64x256 .f32) (b2 : FVec Ideal S64 .f32)

/-- The hidden layer: `max (x · w1ᵀ + b1) 0`. -/
def hidden : FVec Ideal S8192x256 .f32 :=
  maximumf
    (addf (Host.dotGeneral dot_S8192x768_S768x256_S8192x256_1_0_0_1_n_n none x
        (transpose S768x256 [1, 0] w1 transposes_S256x768_S768x256_1_0))
      (broadcastInDim S8192x256 ![0, 1] bcast_S1x256_S8192x256_0_1 (broadcastInDim S1x256 ![1] bcast_S256_S1x256_1 b1)))
    (broadcastInDim S8192x256 ![] bcast_S_S8192x256 (constant S_ .f32 0x00000000#32))

/-- The scores: `hidden · w2ᵀ + b2`. -/
def scores : FVec Ideal S8192x64 .f32 :=
  addf (Host.dotGeneral dot_S8192x256_S256x64_S8192x64_1_0_0_1_n_n none (hidden x w1 b1)
      (transpose S256x64 [1, 0] w2 transposes_S64x256_S256x64_1_0))
    (broadcastInDim S8192x64 ![0, 1] bcast_S1x64_S8192x64_0_1 (broadcastInDim S1x64 ![1] bcast_S64_S1x64_1 b2))

/-- A value per row, repeated along the row. -/
def alongRow (v : FVec Ideal S8192 .f32) : FVec Ideal S8192x64 .f32 :=
  broadcastInDim S8192x64 ![0, 1] bcast_S8192x1_S8192x64_0_1 (broadcastInDim S8192x1 ![0] bcast_S8192_S8192x1_0 v)

/-- The exponentials of the scores, each less the greatest of its row. -/
def exponentials : FVec Ideal S8192x64 .f32 :=
  Host.exp (subf (scores x w1 b1 w2 b2) (alongRow
    (maximumf (broadcastInDim S8192 ![] bcast_S_S8192 (constant S_ .f32 0xFF800000#32))
      (Host.reduce FloatOps.maximumf (scores x w1 b1 w2 b2) (constant S_ .f32 0xFF800000#32)
        reducesTo_S8192x64_S8192_d1 h_S_))))

/-- The probabilities: each row of exponentials over its sum. -/
def probabilities : FVec Ideal S8192x64 .f32 :=
  Host.divf (exponentials x w1 b1 w2 b2) (alongRow
    (Host.reduceAdd (exponentials x w1 b1 w2 b2) (constant S_ .f32 0x00000000#32) reducesTo_S8192x64_S8192_d1 h_S_))

end Terms

section Reference

open Cert.ReferenceIdeal Cert.ReferenceIdeal.Gen

variable (m : (ℓ : Loc nD τ sig) → Buf (Elt Ideal) ℓ) (c : Dev nD)

set_option maxRecDepth 65536 in
/-- The reference's loop starts with the probabilities. -/
theorem reference_probabilities : RefTrip.probs (RefRun.entry m c)
    = probabilities (m ((c : Thread nD τ).loc main_arg0)) (m ((c : Thread nD τ).loc main_arg1))
        (m ((c : Thread nD τ).loc main_arg2)) (m ((c : Thread nD τ).loc main_arg3))
        (m ((c : Thread nD τ).loc main_arg4)) := by
  simp only [RefTrip.probs, RefRun.entry, entryContents, afterL_cons, afterL_nil]
  after_reads_simp
  rfl

end Reference

section Kernel

open Cert.KernelIdeal Cert.KernelIdeal.Gen

variable (m : (ℓ : Loc nD τ sig) → Buf (Elt Ideal) ℓ) (c : Dev nD)

set_option maxRecDepth 65536 in
/-- The kernel is called with the probabilities. -/
theorem kernel_probabilities : KernelRun.operand m c
    = probabilities (m ((c : Thread nD τ).loc main_arg0)) (m ((c : Thread nD τ).loc main_arg1))
        (m ((c : Thread nD τ).loc main_arg2)) (m ((c : Thread nD τ).loc main_arg3))
        (m ((c : Thread nD τ).loc main_arg4)) := by
  simp only [KernelRun.operand, V, List.flatten_cons, List.flatten_nil, List.append_nil]
  after_reads_simp
  rfl

end Kernel

end Cert.Proof.HostSteps

end
-- ==== Proof.Equation.lean ====
/-
  The two programs return the same array: on equal arguments the kernel and the reference's loop get the same
  probabilities and the same running total at the start, and the two loops write the same rows.
-/
module

public import proofs.«01_k».proof.Proof.HostSteps

@[expose] public section

noncomputable section

open Idealize.ShloMosaic Idealize.ShloMosaic.TcCoe Idealize.SL.Sem Idealize.ShloMosaic.StableHlo

namespace Cert.Proof.Equation

open Cert.Proof.Scan Cert.Proof.HostSteps

section Kernel

open Cert.KernelIdeal Cert.KernelIdeal.Gen

variable (m : (ℓ : Loc nD τ sig) → Buf (Elt Ideal) ℓ) (c : Dev nD)

set_option maxRecDepth 65536 in
/-- The running total the kernel is called with is the last argument. -/
theorem start_row :
    KernelRow.row (KernelRun.start m c) = fun e => (m ((c : Thread nD τ).loc main_arg5) : FVec Ideal S64 .f32) (ix1 e) := by
  have h : KernelRun.start m c
      = shapeCast S1x64 (m ((c : Thread nD τ).loc main_arg5) : FVec Ideal S64 .f32) shapeCasts_S64_S1x64 := by
    simp only [KernelRun.start, V, List.flatten_cons, List.flatten_nil, List.append_nil]
    after_reads_simp
    rfl
  funext e
  show KernelRun.start m c (ix2 0 e) = _
  rw [h]
  pointwise

end Kernel

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- On equal arguments the reference returns what the kernel returns. -/
theorem result_eq
    (h : m' ((c : Thread Cert.ReferenceIdeal.nD Cert.ReferenceIdeal.τ).loc Cert.ReferenceIdeal.main_arg0)
          = m ((c : Thread Cert.KernelIdeal.nD Cert.KernelIdeal.τ).loc Cert.KernelIdeal.main_arg0)
      ∧ m' ((c : Thread Cert.ReferenceIdeal.nD Cert.ReferenceIdeal.τ).loc Cert.ReferenceIdeal.main_arg1)
          = m ((c : Thread Cert.KernelIdeal.nD Cert.KernelIdeal.τ).loc Cert.KernelIdeal.main_arg1)
      ∧ m' ((c : Thread Cert.ReferenceIdeal.nD Cert.ReferenceIdeal.τ).loc Cert.ReferenceIdeal.main_arg2)
          = m ((c : Thread Cert.KernelIdeal.nD Cert.KernelIdeal.τ).loc Cert.KernelIdeal.main_arg2)
      ∧ m' ((c : Thread Cert.ReferenceIdeal.nD Cert.ReferenceIdeal.τ).loc Cert.ReferenceIdeal.main_arg3)
          = m ((c : Thread Cert.KernelIdeal.nD Cert.KernelIdeal.τ).loc Cert.KernelIdeal.main_arg3)
      ∧ m' ((c : Thread Cert.ReferenceIdeal.nD Cert.ReferenceIdeal.τ).loc Cert.ReferenceIdeal.main_arg4)
          = m ((c : Thread Cert.KernelIdeal.nD Cert.KernelIdeal.τ).loc Cert.KernelIdeal.main_arg4)
      ∧ m' ((c : Thread Cert.ReferenceIdeal.nD Cert.ReferenceIdeal.τ).loc Cert.ReferenceIdeal.main_arg5)
          = m ((c : Thread Cert.KernelIdeal.nD Cert.KernelIdeal.τ).loc Cert.KernelIdeal.main_arg5)) :
    RefRun.result m' c = KernelRun.result m c := by
  obtain ⟨h0, h1, h2, h3, h4, h5⟩ := h
  have hp : RefTrip.probs (RefRun.entry m' c) = KernelRun.operand m c := by
    rw [reference_probabilities, kernel_probabilities, h0, h1, h2, h3, h4]
  have hrows : listed (RefTrip.probRow (RefRun.entry m' c)) = KernelTrip.rows (KernelRun.operand m c) := by
    rw [← hp]
  funext i
  unfold RefRun.result KernelRun.result KernelArray.scanned
  rw [hrows, start_row, h5]

end Cert.Proof.Equation

end
-- ==== Proof.lean ====
/-
  The proof of `Cert.Claim`: the kernel, its idealization and the reference run, keep their arguments and end quiescent;
  the idealization is the kernel's own text; and the idealization and the reference return the same array.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and ends with every semaphore at zero. -/
theorem reference_quiescent : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩) (RefRun.run m ρ)

/-- From equal arguments the idealized kernel and the reference return the same array. -/
theorem same_result : Cert.algebraic_KernelIdeal_ReferenceIdeal (hKernelIdeal := Cert.KernelIdeal.Gen.facts)
    (hReferenceIdeal := Cert.ReferenceIdeal.Gen.facts) := by
  intro m ρ m' ρ' _ hagree
  refine ⟨fun c => KernelRun.result m c, KernelRun.run m ρ, ?_⟩
  exact (θ_run Cert.ReferenceIdeal.defs _ _).mono
    (fun r h c => ⟨(h c).1.trans (Equation.result_eq m m' c (hagree c)), (h c).2⟩) (RefRun.run m' ρ')

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiescent, trivial,
    same_result⟩

end Cert.Proof

end
